-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x32x32 : Shape := ⟨4, ![1, 512, 32, 32]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S512x32x32 : Shape := ⟨3, ![512, 32, 32]⟩
abbrev S32x32x512 : Shape := ⟨3, ![32, 32, 512]⟩
abbrev S_ : Shape := ⟨0, ![]⟩
abbrev S34x34x512 : Shape := ⟨3, ![34, 34, 512]⟩
abbrev S3x3x512x512 : Shape := ⟨4, ![3, 3, 512, 512]⟩
abbrev S9x512x512 : Shape := ⟨3, ![9, 512, 512]⟩
abbrev S1x512 : Shape := ⟨2, ![1, 512]⟩
abbrev S18x512 : Shape := ⟨2, ![18, 512]⟩
abbrev S1x18 : Shape := ⟨2, ![1, 18]⟩
abbrev S36x512 : Shape := ⟨2, ![36, 512]⟩
abbrev S1x36 : Shape := ⟨2, ![1, 36]⟩
abbrev S1024x18 : Shape := ⟨2, ![1024, 18]⟩
abbrev S1024x36 : Shape := ⟨2, ![1024, 36]⟩
abbrev S34x32x512 : Shape := ⟨3, ![34, 32, 512]⟩
abbrev S1024x512 : Shape := ⟨2, ![1024, 512]⟩
abbrev S1x512x512 : Shape := ⟨3, ![1, 512, 512]⟩
abbrev S512x512 : Shape := ⟨2, ![512, 512]⟩
abbrev S512x18 : Shape := ⟨2, ![512, 18]⟩
abbrev S512x36 : Shape := ⟨2, ![512, 36]⟩
abbrev S9216x2 : Shape := ⟨2, ![9216, 2]⟩
abbrev S9216x4 : Shape := ⟨2, ![9216, 4]⟩

abbrev nBuf : Space → Nat
  | .hbm => 25
  | .vmem => 9
  | .smem => 0
  | _ => 0

abbrev bufTy : (tb : Table) → Fin (tcTables nBuf tb) → BufTy
  | .hbm, ⟨0, _⟩ => ⟨S1x512x32x32, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S512x32x32, .f32⟩
  | .hbm, ⟨8, _⟩ => ⟨S32x32x512, .f32⟩
  | .hbm, ⟨9, _⟩ => ⟨S_, .i32⟩
  | .hbm, ⟨10, _⟩ => ⟨S_, .f32⟩
  | .hbm, ⟨11, _⟩ => ⟨S34x34x512, .f32⟩
  | .hbm, ⟨12, _⟩ => ⟨S34x34x512, .bf16⟩
  | .hbm, ⟨13, _⟩ => ⟨S3x3x512x512, .f32⟩
  | .hbm, ⟨14, _⟩ => ⟨S9x512x512, .f32⟩
  | .hbm, ⟨15, _⟩ => ⟨S9x512x512, .bf16⟩
  | .hbm, ⟨16, _⟩ => ⟨S1x512, .f32⟩
  | .hbm, ⟨17, _⟩ => ⟨S18x512, .f32⟩
  | .hbm, ⟨18, _⟩ => ⟨S1x18, .f32⟩
  | .hbm, ⟨19, _⟩ => ⟨S36x512, .f32⟩
  | .hbm, ⟨20, _⟩ => ⟨S1x36, .f32⟩
  | .hbm, ⟨21, _⟩ => ⟨S1024x18, .f32⟩
  | .hbm, ⟨22, _⟩ => ⟨S1024x36, .f32⟩
  | .hbm, ⟨23, _⟩ => ⟨S9216x2, .f32⟩
  | .hbm, ⟨24, _⟩ => ⟨S9216x4, .f32⟩
  | .local _ .vmem, ⟨0, _⟩ => ⟨S34x34x512, .bf16⟩
  | .local _ .vmem, ⟨1, _⟩ => ⟨S9x512x512, .bf16⟩
  | .local _ .vmem, ⟨2, _⟩ => ⟨S1x512, .f32⟩
  | .local _ .vmem, ⟨3, _⟩ => ⟨S18x512, .f32⟩
  | .local _ .vmem, ⟨4, _⟩ => ⟨S1x18, .f32⟩
  | .local _ .vmem, ⟨5, _⟩ => ⟨S36x512, .f32⟩
  | .local _ .vmem, ⟨6, _⟩ => ⟨S1x36, .f32⟩
  | .local _ .vmem, ⟨7, _⟩ => ⟨S1024x18, .f32⟩
  | .local _ .vmem, ⟨8, _⟩ => ⟨S1024x36, .f32⟩
  | _, _ => ⟨S1x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S34x34x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S36x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x36 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x512x32x32 : Shape := ⟨4, ![1, 512, 32, 32]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S_ : Shape := ⟨0, ![]⟩
abbrev S1x512x34x34 : Shape := ⟨4, ![1, 512, 34, 34]⟩
abbrev S1x512x1x32x32 : Shape := ⟨5, ![1, 512, 1, 32, 32]⟩
abbrev S1x512x3x32x32 : Shape := ⟨5, ![1, 512, 3, 32, 32]⟩
abbrev S1x512x1x3x32x32 : Shape := ⟨6, ![1, 512, 1, 3, 32, 32]⟩
abbrev S1x512x3x3x32x32 : Shape := ⟨6, ![1, 512, 3, 3, 32, 32]⟩
abbrev S512x1x32x32 : Shape := ⟨4, ![512, 1, 32, 32]⟩
abbrev S1x512x1x1 : Shape := ⟨4, ![1, 512, 1, 1]⟩
abbrev S1x512x1x1x32x32 : Shape := ⟨6, ![1, 512, 1, 1, 32, 32]⟩
abbrev S18x1x32x32 : Shape := ⟨4, ![18, 1, 32, 32]⟩
abbrev S1x18x32x32 : Shape := ⟨4, ![1, 18, 32, 32]⟩
abbrev S1x18x1x1 : Shape := ⟨4, ![1, 18, 1, 1]⟩
abbrev S36x1x32x32 : Shape := ⟨4, ![36, 1, 32, 32]⟩
abbrev S1x36x32x32 : Shape := ⟨4, ![1, 36, 32, 32]⟩
abbrev S1x36x1x1 : Shape := ⟨4, ![1, 36, 1, 1]⟩
abbrev S1x32x32x18 : Shape := ⟨4, ![1, 32, 32, 18]⟩
abbrev S9216x2 : Shape := ⟨2, ![9216, 2]⟩
abbrev S1x32x32x36 : Shape := ⟨4, ![1, 32, 32, 36]⟩
abbrev S9216x4 : Shape := ⟨2, ![9216, 4]⟩

abbrev nBuf : Space → Nat
  | .hbm => 67
  | .vmem => 0
  | .smem => 0
  | _ => 0

abbrev bufTy : (tb : Table) → Fin (tcTables nBuf tb) → BufTy
  | .hbm, ⟨0, _⟩ => ⟨S1x512x32x32, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S1x512x34x34, .f32⟩
  | .hbm, ⟨10, _⟩ => ⟨S1x512x32x32, .f32⟩
  | .hbm, ⟨11, _⟩ => ⟨S1x512x32x32, .f32⟩
  | .hbm, ⟨12, _⟩ => ⟨S1x512x32x32, .f32⟩
  | .hbm, ⟨13, _⟩ => ⟨S1x512x1x32x32, .f32⟩
  | .hbm, ⟨14, _⟩ => ⟨S1x512x1x32x32, .f32⟩
  | .hbm, ⟨15, _⟩ => ⟨S1x512x1x32x32, .f32⟩
  | .hbm, ⟨16, _⟩ => ⟨S1x512x3x32x32, .f32⟩
  | .hbm, ⟨17, _⟩ => ⟨S1x512x32x32, .f32⟩
  | .hbm, ⟨18, _⟩ => ⟨S1x512x32x32, .f32⟩
  | .hbm, ⟨19, _⟩ => ⟨S1x512x32x32, .f32⟩
  | .hbm, ⟨20, _⟩ => ⟨S1x512x1x32x32, .f32⟩
  | .hbm, ⟨21, _⟩ => ⟨S1x512x1x32x32, .f32⟩
  | .hbm, ⟨22, _⟩ => ⟨S1x512x1x32x32, .f32⟩
  | .hbm, ⟨23, _⟩ => ⟨S1x512x3x32x32, .f32⟩
  | .hbm, ⟨24, _⟩ => ⟨S1x512x32x32, .f32⟩
  | .hbm, ⟨25, _⟩ => ⟨S1x512x32x32, .f32⟩
  | .hbm, ⟨26, _⟩ => ⟨S1x512x32x32, .f32⟩
  | .hbm, ⟨27, _⟩ => ⟨S1x512x1x32x32, .f32⟩
  | .hbm, ⟨28, _⟩ => ⟨S1x512x1x32x32, .f32⟩
  | .hbm, ⟨29, _⟩ => ⟨S1x512x1x32x32, .f32⟩
  | .hbm, ⟨30, _⟩ => ⟨S1x512x3x32x32, .f32⟩
  | .hbm, ⟨31, _⟩ => ⟨S1x512x1x3x32x32, .f32⟩
  | .hbm, ⟨32, _⟩ => ⟨S1x512x1x3x32x32, .f32⟩
  | .hbm, ⟨33, _⟩ => ⟨S1x512x1x3x32x32, .f32⟩
  | .hbm, ⟨34, _⟩ => ⟨S1x512x3x3x32x32, .f32⟩
  | .hbm, ⟨35, _⟩ => ⟨S512x1x32x32, .f32⟩
  | .hbm, ⟨36, _⟩ => ⟨S1x512x32x32, .f32⟩
  | .hbm, ⟨37, _⟩ => ⟨S1x512x1x1, .f32⟩
  | .hbm, ⟨38, _⟩ => ⟨S1x512x32x32, .f32⟩
  | .hbm, ⟨39, _⟩ => ⟨S1x512x32x32, .f32⟩
  | .hbm, ⟨40, _⟩ => ⟨S_, .f32⟩
  | .hbm, ⟨41, _⟩ => ⟨S1x512x32x32, .f32⟩
  | .hbm, ⟨42, _⟩ => ⟨S1x512x32x32, .f32⟩
  | .hbm, ⟨43, _⟩ => ⟨S_, .i32⟩
  | .hbm, ⟨44, _⟩ => ⟨S_, .f32⟩
  | .hbm, ⟨45, _⟩ => ⟨S1x512x32x32, .f32⟩
  | .hbm, ⟨46, _⟩ => ⟨S1x512x1x32x32, .f32⟩
  | .hbm, ⟨47, _⟩ => ⟨S1x512x1x1x32x32, .f32⟩
  | .hbm, ⟨48, _⟩ => ⟨S18x1x32x32, .f32⟩
  | .hbm, ⟨49, _⟩ => ⟨S1x18x32x32, .f32⟩
  | .hbm, ⟨50, _⟩ => ⟨S1x18x1x1, .f32⟩
  | .hbm, ⟨51, _⟩ => ⟨S1x18x32x32, .f32⟩
  | .hbm, ⟨52, _⟩ => ⟨S1x18x32x32, .f32⟩
  | .hbm, ⟨53, _⟩ => ⟨S_, .i32⟩
  | .hbm, ⟨54, _⟩ => ⟨S_, .f32⟩
  | .hbm, ⟨55, _⟩ => ⟨S1x512x32x32, .f32⟩
  | .hbm, ⟨56, _⟩ => ⟨S1x512x1x32x32, .f32⟩
  | .hbm, ⟨57, _⟩ => ⟨S1x512x1x1x32x32, .f32⟩
  | .hbm, ⟨58, _⟩ => ⟨S36x1x32x32, .f32⟩
  | .hbm, ⟨59, _⟩ => ⟨S1x36x32x32, .f32⟩
  | .hbm, ⟨60, _⟩ => ⟨S1x36x1x1, .f32⟩
  | .hbm, ⟨61, _⟩ => ⟨S1x36x32x32, .f32⟩
  | .hbm, ⟨62, _⟩ => ⟨S1x36x32x32, .f32⟩
  | .hbm, ⟨63, _⟩ => ⟨S1x32x32x18, .f32⟩
  | .hbm, ⟨64, _⟩ => ⟨S9216x2, .f32⟩
  | .hbm, ⟨65, _⟩ => ⟨S1x32x32x36, .f32⟩
  | .hbm, ⟨66, _⟩ => ⟨S9216x4, .f32⟩
  | _, _ => ⟨S1x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call1_cst : Ref sig .tc := ⟨.hbm, 40, rfl⟩
abbrev main_call1_v0 : Ref sig .tc := ⟨.hbm, 41, rfl⟩
abbrev main_v31 : Ref sig .tc := ⟨.hbm, 42, rfl⟩
abbrev main_c_0 : Ref sig .tc := ⟨.hbm, 43, rfl⟩
abbrev main_call2_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_1 : Ref sig .tc := ⟨.hbm, 53, rfl⟩
abbrev main_call3_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Spec.lean ====
/-
  The mathematics both programs compute, on the extended reals and index by index: an image padded by a ring of zeros, a
  3×3 convolution of it with a bias and a relu (the hidden features), and a 1×1 convolution of those with a bias (a head).
-/
module

public import Idealize.ShloMosaic.Lib.Pointwise

@[expose] public section

noncomputable section

namespace Cert.Rpn

open Idealize.ShloMosaic

/-- Channel `i` of the image at row `r` and column `c` of its padded copy: one ring of zeros around the 32×32 pixels. -/
def padded (x : (⟨4, ![1, 512, 32, 32]⟩ : Shape).Idx → EReal) (i : Fin 512) (r c : ℕ) : EReal :=
  if h : (1 ≤ r ∧ r - 1 < 32) ∧ 1 ≤ c ∧ c - 1 < 32 then x (ix4 0 i ⟨r - 1, h.1.2⟩ ⟨c - 1, h.2.2⟩) else 0

/-- Hidden feature `o` at pixel `(p, q)`: the 3×3 convolution of the padded image, plus its bias, at least zero. -/
def hidden (x : (⟨4, ![1, 512, 32, 32]⟩ : Shape).Idx → EReal) (W : (⟨4, ![512, 512, 3, 3]⟩ : Shape).Idx → EReal)
    (b : (⟨1, ![512]⟩ : Shape).Idx → EReal) (p q : Fin 32) (o : Fin 512) : EReal :=
  max ((∑ i : Fin 512, ∑ kx : Fin 3, ∑ ky : Fin 3, W (ix4 o i ky kx) * padded x i (p + ky) (q + kx)) + b (ix1 o)) 0

/-- Channel `a` of a head with `n` channels at one pixel, from that pixel's hidden features `f`: a linear map and a bias. -/
def head {n : ℕ} (f : Fin 512 → EReal) (W : (⟨4, ![n, 512, 1, 1]⟩ : Shape).Idx → EReal)
    (b : (⟨1, ![n]⟩ : Shape).Idx → EReal) (a : Fin n) : EReal :=
  (∑ o : Fin 512, W (ix4 a o 0 0) * f o) + b (ix1 a)

/-- The first result at row `r` and column `l`: the 18 scores of each pixel, in pairs. -/
def scores (x : (⟨4, ![1, 512, 32, 32]⟩ : Shape).Idx → EReal) (W : (⟨4, ![512, 512, 3, 3]⟩ : Shape).Idx → EReal)
    (b : (⟨1, ![512]⟩ : Shape).Idx → EReal) (Wc : (⟨4, ![18, 512, 1, 1]⟩ : Shape).Idx → EReal)
    (bc : (⟨1, ![18]⟩ : Shape).Idx → EReal) (r : Fin 9216) (l : Fin 2) : EReal :=
  head (hidden x W b ⟨r / 288, by omega⟩ ⟨r / 9 % 32, by omega⟩) Wc bc ⟨r % 9 * 2 + l, by omega⟩

/-- The second result at row `r` and column `l`: the 36 box coordinates of each pixel, in fours. -/
def boxes (x : (⟨4, ![1, 512, 32, 32]⟩ : Shape).Idx → EReal) (W : (⟨4, ![512, 512, 3, 3]⟩ : Shape).Idx → EReal)
    (b : (⟨1, ![512]⟩ : Shape).Idx → EReal) (Wb : (⟨4, ![36, 512, 1, 1]⟩ : Shape).Idx → EReal)
    (bb : (⟨1, ![36]⟩ : Shape).Idx → EReal) (r : Fin 9216) (l : Fin 4) : EReal :=
  head (hidden x W b ⟨r / 288, by omega⟩ ⟨r / 9 % 32, by omega⟩) Wb bb ⟨r % 9 * 4 + l, by omega⟩

end Cert.Rpn

end
-- ==== Proof.RefValue.lean ====
/-
  What the reference computes, read index by index: the windows' stack is the padded image, its one contraction is the
  3×3 convolution, and each head's contraction is a linear map of the hidden features.
-/
module

public import proofs.«01_k».proof.Proof.Spec
public import proofs.«01_k».proof.Proof.Gen.ReferenceIdeal.Read

@[expose] public section

noncomputable section

namespace Cert.ReferenceIdeal.Math

open Cert.ReferenceIdeal Cert.ReferenceIdeal.Gen Cert.ReferenceIdeal.Read Idealize.ShloMosaic

/-! ## A contraction over three axes -/

/-- The index of a box with three axes, from its coordinates. -/
def triple {K L N : ℕ} (i : Fin K) (j : Fin L) (l : Fin N) : (Shape.ofList [K, L, N]).Idx := fun p =>
  match p with
  | ⟨0, _⟩ => i
  | ⟨1, _⟩ => j
  | ⟨2, _⟩ => l

/-- A sum over a box with three axes, axis by axis. -/
theorem sum_box {K L N : ℕ} (f : (Shape.ofList [K, L, N]).Idx → EReal) :
    ∑ k, f k = ∑ i : Fin K, ∑ j : Fin L, ∑ l : Fin N, f (triple i j l) := by
  have hb : Function.Bijective (fun t : Fin K × Fin L × Fin N => triple t.1 t.2.1 t.2.2) := by
    refine Function.bijective_iff_has_inverse.mpr
      ⟨fun k => (k ⟨0, Nat.zero_lt_succ 2⟩, k ⟨1, Nat.one_lt_succ_succ 1⟩, k ⟨2, Nat.lt_succ_self 2⟩), fun _ => rfl,
        fun k => funext fun p => ?_⟩
    match p with
    | ⟨0, _⟩ => rfl
    | ⟨1, _⟩ => rfl
    | ⟨2, _⟩ => rfl
  rw [← Fintype.sum_bijective _ hb (fun t => f (triple t.1 t.2.1 t.2.2)) f fun _ => rfl]
  simp only [Fintype.sum_prod_type]

/-! ## The convolution -/

/-- The value the padding writes is zero. -/
theorem pad_value (j : S_.Idx) : val_main_call0_v0 (F := Ideal) j = 0 := by
  show (((0#32).toInt : ℝ) : EReal) = 0
  simp

set_option maxRecDepth 16384 in
/-- The padded image, read: a pixel inside the ring, zero on it. -/
theorem pad_apply (x0 : FVec Ideal S1x512x32x32 .f32) (i : Fin 512) (r c : Fin 34) :
    val_main_v0 (F := Ideal) x0 (ix4 0 i r c) = Cert.Rpn.padded x0 i r c := by
  unfold val_main_v0
  pointwise [Cert.Rpn.padded, pad_value]

set_option maxRecDepth 16384 in
/-- The stack of windows: window `(ky, kx)` at pixel `(p, q)` is the padded image at row `p + ky` and column `q + kx`. -/
theorem windows_apply (x0 : FVec Ideal S1x512x32x32 .f32) (i : Fin 512) (ky kx : Fin 3) (p q : Fin 32) :
    val_main_v25 (F := Ideal) x0 (ix6 0 i ky kx p q) = Cert.Rpn.padded x0 i (p + ky) (q + kx) := by
  pointwise [val_main_v25, val_main_v22, val_main_v23, val_main_v24, val_main_v7, val_main_v14, val_main_v21,
    val_main_v4, val_main_v5, val_main_v6, val_main_v11, val_main_v12, val_main_v13, val_main_v18, val_main_v19,
    val_main_v20, val_main_v1, val_main_v2, val_main_v3, val_main_v8, val_main_v9, val_main_v10, val_main_v15,
    val_main_v16, val_main_v17, pad_apply]
  fin_vals ky with hk <;> fin_vals kx with hk' <;> simp [hk, hk', Nat.add_comm]

/-- The convolution before its bias: the contraction over channel, column and row of the weights with the windows. -/
theorem conv_apply (x0 : FVec Ideal S1x512x32x32 .f32) (x1 : FVec Ideal S512x512x3x3 .f32) (o : Fin 512) (p q : Fin 32) :
    val_main_v26 (F := Ideal) x0 x1 (ix4 o 0 p q)
      = ∑ i : Fin 512, ∑ kx : Fin 3, ∑ ky : Fin 3, x1 (ix4 o i ky kx) * Cert.Rpn.padded x0 i (p + ky) (q + kx) := by
  unfold val_main_v26
  refine (Ideal.dotGeneral_apply _ _ _ _ _ _).trans ((sum_box (K := 512) (L := 3) (N := 3) _).trans ?_)
  refine Finset.sum_congr rfl fun i _ => Finset.sum_congr rfl fun kx _ => Finset.sum_congr rfl fun ky _ => ?_
  rw [← windows_apply]
  congr 1
  · exact congrArg x1 (eq_ix4 _)
  · exact congrArg (val_main_v25 (F := Ideal) x0) (eq_ix6 _)

set_option maxRecDepth 16384 in
/-- With the bias and the relu: the hidden features. -/
theorem hidden_apply (x0 : FVec Ideal S1x512x32x32 .f32) (x1 : FVec Ideal S512x512x3x3 .f32) (x2 : FVec Ideal S512 .f32)
    (o : Fin 512) (p q : Fin 32) :
    val_main_v31 (F := Ideal) x0 x1 x2 (ix4 0 o p q) = Cert.Rpn.hidden x0 x1 x2 p q o := by
  pointwise [val_main_v31, val_main_v30, val_main_v27, val_main_v29, val_main_v28, conv_apply, val_main_call1_v0,
   val_main_call1_cst, Cert.Rpn.hidden]

/-! ## The heads -/

set_option maxRecDepth 16384 in
/-- A head's windows (a padding by nothing and two axes of one element) are the hidden features themselves. -/
theorem features_apply (x0 : FVec Ideal S1x512x32x32 .f32) (x1 : FVec Ideal S512x512x3x3 .f32) (x2 : FVec Ideal S512 .f32)
    (o : Fin 512) (p q : Fin 32) :
    val_main_v34 (F := Ideal) x0 x1 x2 (ix6 0 o 0 0 p q) = Cert.Rpn.hidden x0 x1 x2 p q o := by
  pointwise [val_main_v34, val_main_v33, val_main_v32, hidden_apply]

/-- Both heads read the same windows. -/
theorem features_eq (x0 : FVec Ideal S1x512x32x32 .f32) (x1 : FVec Ideal S512x512x3x3 .f32) (x2 : FVec Ideal S512 .f32) :
    val_main_v42 (F := Ideal) x0 x1 x2 = val_main_v34 (F := Ideal) x0 x1 x2 := rfl

/-- The score head before its bias: a linear map of the hidden features. -/
theorem score_dot_apply (x0 : FVec Ideal S1x512x32x32 .f32) (x1 : FVec Ideal S512x512x3x3 .f32) (x2 : FVec Ideal S512 .f32)
    (x3 : FVec Ideal S18x512x1x1 .f32) (a : Fin 18) (p q : Fin 32) :
    val_main_v35 (F := Ideal) x0 x1 x2 x3 (ix4 a 0 p q)
      = ∑ o : Fin 512, x3 (ix4 a o 0 0) * Cert.Rpn.hidden x0 x1 x2 p q o := by
  unfold val_main_v35
  refine (Ideal.dotGeneral_apply _ _ _ _ _ _).trans ((sum_box (K := 512) (L := 1) (N := 1) _).trans ?_)
  refine Finset.sum_congr rfl fun o _ => ?_
  rw [Fin.sum_univ_one, Fin.sum_univ_one, ← features_apply]
  congr 1
  · exact congrArg x3 (eq_ix4 _)
  · exact congrArg (val_main_v34 (F := Ideal) x0 x1 x2) (eq_ix6 _)

/-- The box head before its bias: a linear map of the hidden features. -/
theorem box_dot_apply (x0 : FVec Ideal S1x512x32x32 .f32) (x1 : FVec Ideal S512x512x3x3 .f32) (x2 : FVec Ideal S512 .f32)
    (x5 : FVec Ideal S36x512x1x1 .f32) (a : Fin 36) (p q : Fin 32) :
    val_main_v43 (F := Ideal) x0 x1 x2 x5 (ix4 a 0 p q)
      = ∑ o : Fin 512, x5 (ix4 a o 0 0) * Cert.Rpn.hidden x0 x1 x2 p q o := by
  unfold val_main_v43
  refine (Ideal.dotGeneral_apply _ _ _ _ _ _).trans ((sum_box (K := 512) (L := 1) (N := 1) _).trans ?_)
  refine Finset.sum_congr rfl fun o _ => ?_
  rw [Fin.sum_univ_one, Fin.sum_univ_one, ← features_apply, features_eq]
  congr 1
  · exact congrArg x5 (eq_ix4 _)
  · exact congrArg (val_main_v34 (F := Ideal) x0 x1 x2) (eq_ix6 _)

set_option maxRecDepth 16384 in
/-- The reference's first result. -/
theorem scores_apply (x0 : FVec Ideal S1x512x32x32 .f32) (x1 : FVec Ideal S512x512x3x3 .f32) (x2 : FVec Ideal S512 .f32)
    (x3 : FVec Ideal S18x512x1x1 .f32) (x4 : FVec Ideal S18 .f32) (r : Fin 9216) (l : Fin 2) :
    val_main_v49 (F := Ideal) x0 x1 x2 x3 x4 (ix2 r l) = Cert.Rpn.scores x0 x1 x2 x3 x4 r l := by
  pointwise [val_main_v49, val_main_v48, val_main_v39, val_main_v38, val_main_v37, val_main_v36, score_dot_apply,
    Cert.Rpn.scores, Cert.Rpn.head]

set_option maxRecDepth 16384 in
/-- The reference's second result. -/
theorem boxes_apply (x0 : FVec Ideal S1x512x32x32 .f32) (x1 : FVec Ideal S512x512x3x3 .f32) (x2 : FVec Ideal S512 .f32)
    (x5 : FVec Ideal S36x512x1x1 .f32) (x6 : FVec Ideal S36 .f32) (r : Fin 9216) (l : Fin 4) :
    val_main_v51 (F := Ideal) x0 x1 x2 x5 x6 (ix2 r l) = Cert.Rpn.boxes x0 x1 x2 x5 x6 r l := by
  pointwise [val_main_v51, val_main_v50, val_main_v47, val_main_v46, val_main_v45, val_main_v44, box_dot_apply,
    Cert.Rpn.boxes, Cert.Rpn.head]

end Cert.ReferenceIdeal.Math

end
-- ==== Proof.KernelBody.lean ====
/-
  What the kernel's one block computes, read index by index: nine products of a shifted image with a slab of the weights
  add up to the 3×3 convolution, and each head's product is a linear map of the hidden features.
-/
module

public import proofs.«01_k».proof.Proof.Spec
public import proofs.«01_k».proof.Proof.Gen.KernelIdeal.Frame

@[expose] public section

noncomputable section

namespace Cert.KernelIdeal.Math

open Cert.KernelIdeal Cert.KernelIdeal.Gen Idealize.ShloMosaic

/-- The triple sum of a convolution is the nine sums over channels, one for each offset, added row by row. -/
theorem nine_sums (w : Fin 512 → Fin 3 → Fin 3 → EReal) (z : Fin 512 → ℕ → ℕ → EReal) :
    ∑ i, ∑ kx : Fin 3, ∑ ky : Fin 3, w i ky kx * z i ky kx
      = ∑ i, z i 0 0 * w i 0 0 + ∑ i, z i 0 1 * w i 0 1 + ∑ i, z i 0 2 * w i 0 2
        + ∑ i, z i 1 0 * w i 1 0 + ∑ i, z i 1 1 * w i 1 1 + ∑ i, z i 1 2 * w i 1 2
        + ∑ i, z i 2 0 * w i 2 0 + ∑ i, z i 2 1 * w i 2 1 + ∑ i, z i 2 2 * w i 2 2 := by
  simp only [← Finset.sum_add_distrib]
  refine Finset.sum_congr rfl fun i _ => ?_
  simp only [Fin.sum_univ_three, mul_comm (w _ _ _)]
  show (z i 0 0 * w i 0 0 + z i 1 0 * w i 1 0 + z i 2 0 * w i 2 0) + (z i 0 1 * w i 0 1 + z i 1 1 * w i 1 1 + z i 2 1 * w i 2 1)
    + (z i 0 2 * w i 0 2 + z i 1 2 * w i 1 2 + z i 2 2 * w i 2 2) = _
  ac_rfl

set_option maxRecDepth 16384 in
/-- The block's hidden features at pixel row `r`, when its image operand holds the padded image and its weight operand
    the nine slabs of the weights. -/
theorem features_apply (x : FVec Ideal S1x512x32x32 .f32) (w : FVec Ideal S512x512x3x3 .f32) (b : FVec Ideal S512 .f32)
    (X : FVec Ideal S34x34x512 .bf16) (W : FVec Ideal S9x512x512 .bf16) (B : FVec Ideal S1x512 .f32)
    (x3 : FVec Ideal S18x512 .f32) (x4 : FVec Ideal S1x18 .f32) (x5 : FVec Ideal S36x512 .f32) (x6 : FVec Ideal S1x36 .f32)
    (hX : ∀ (r c : Fin 34) (i : Fin 512), X (ix3 r c i) = Cert.Rpn.padded x i r c)
    (hW : ∀ (t : Fin 9) (i o : Fin 512), W (ix3 t i o) = w (ix4 o i ⟨t / 3, by omega⟩ ⟨t % 3, by omega⟩))
    (hB : ∀ o : Fin 512, B (ix2 0 o) = b (ix1 o)) (r : Fin 1024) (o : Fin 512) :
    k0_pay9 (F := Ideal) X W B x3 x4 x5 x6 (ix2 r o)
      = Cert.Rpn.hidden x w b ⟨r / 32, by omega⟩ ⟨r % 32, by omega⟩ o := by
  pointwise [k0_pay9, k0_pay8, k0_pay7, k0_pay6, k0_pay5, k0_pay4, k0_pay3]
  simp only [hX, hW, hB, Cert.Rpn.hidden]
  rw [nine_sums (fun i ky kx => w (ix4 o i ky kx)) (fun i ky kx => Cert.Rpn.padded x i (r / 32 + ky) (r % 32 + kx))]
  simp only [Nat.add_comm _ (r.val / 32), Nat.add_comm _ (r.val % 32), Nat.add_zero]
  rfl

set_option maxRecDepth 16384 in
/-- What the block stores as scores: the score head of the hidden features. -/
theorem scores_apply (f : FVec Ideal S1024x512 .bf16) (wc : FVec Ideal S18x512x1x1 .f32) (bc : FVec Ideal S18 .f32)
    (Wc : FVec Ideal S18x512 .f32) (Bc : FVec Ideal S1x18 .f32)
    (hW : ∀ (a : Fin 18) (o : Fin 512), Wc (ix2 a o) = wc (ix4 a o 0 0)) (hB : ∀ a : Fin 18, Bc (ix2 0 a) = bc (ix1 a))
    (r : Fin 1024) (a : Fin 18) :
    k0_pay1 (F := Ideal) f Wc Bc (ix2 r a) = Cert.Rpn.head (fun o => f (ix2 r o)) wc bc a := by
  pointwise [k0_pay1, Cert.Rpn.head]
  simp only [hW, hB, mul_comm]

set_option maxRecDepth 16384 in
/-- What the block stores as boxes: the box head of the hidden features. -/
theorem boxes_apply (f : FVec Ideal S1024x512 .bf16) (wb : FVec Ideal S36x512x1x1 .f32) (bb : FVec Ideal S36 .f32)
    (Wb : FVec Ideal S36x512 .f32) (Bb : FVec Ideal S1x36 .f32)
    (hW : ∀ (a : Fin 36) (o : Fin 512), Wb (ix2 a o) = wb (ix4 a o 0 0)) (hB : ∀ a : Fin 36, Bb (ix2 0 a) = bb (ix1 a))
    (r : Fin 1024) (a : Fin 36) :
    k0_pay2 (F := Ideal) f Wb Bb (ix2 r a) = Cert.Rpn.head (fun o => f (ix2 r o)) wb bb a := by
  pointwise [k0_pay2, Cert.Rpn.head]
  simp only [hW, hB, mul_comm]

end Cert.KernelIdeal.Math

end
-- ==== Proof.KernelEntry.lean ====
/-
  The arrays the kernel's call is given, read index by index: what the lines before it make of the arguments.
-/
module

public import proofs.«01_k».proof.Proof.Spec
public import proofs.«01_k».proof.Proof.Gen.KernelIdeal.Frame

@[expose] public section

noncomputable section

namespace Cert.KernelIdeal.Math

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-! ## The arrays as terms over the arguments -/

/-- The image operand: channels moved last, a ring of zeros around, narrowed. -/
theorem image_eq : V m c main_v3 = truncf (F := Ideal) .bf16 (pad S34x34x512 ![1, 1, 0] ![1, 1, 0] ![0, 0, 0]
      (transpose S32x32x512 [1, 2, 0] (shapeCast S512x32x32 (m ((c : Thread nD τ).loc main_arg0))
        shapeCasts_S1x512x32x32_S512x32x32) transposes_S512x32x32_S32x32x512_1_2_0)
      (sitofp .f32 (constantI S_ 32 0#32)) pads_S32x32x512_S34x34x512_110_110_000 h_S_) bitsLt_bf16_f32 := by
  show after _ _ _ = _
  simp only [List.flatten_cons, List.flatten_nil, List.append_nil, List.cons_append, List.nil_append]
  after_results
  rfl

/-- The weight operand: the kernel offsets moved first and joined, input channels before output channels, narrowed. -/
theorem weights_eq : V m c main_v6 = truncf (F := Ideal) .bf16 (shapeCast S9x512x512
      (transpose S3x3x512x512 [2, 3, 1, 0] (m ((c : Thread nD τ).loc main_arg1)) transposes_S512x512x3x3_S3x3x512x512_2_3_1_0)
      shapeCasts_S3x3x512x512_S9x512x512) bitsLt_bf16_f32 := by
  show after _ _ _ = _
  simp only [List.flatten_cons, List.flatten_nil, List.append_nil, List.cons_append, List.nil_append]
  after_results
  rfl

/-- The convolution's bias operand. -/
theorem bias_eq : V m c main_v7 = shapeCast S1x512 (m ((c : Thread nD τ).loc main_arg2)) shapeCasts_S512_S1x512 := by
  show after _ _ _ = _
  simp only [List.flatten_cons, List.flatten_nil, List.append_nil, List.cons_append, List.nil_append]
  after_results
  rfl

/-- The score head's weight operand. -/
theorem score_weights_eq :
    V m c main_v8 = shapeCast S18x512 (m ((c : Thread nD τ).loc main_arg3)) shapeCasts_S18x512x1x1_S18x512 := by
  show after _ _ _ = _
  simp only [List.flatten_cons, List.flatten_nil, List.append_nil, List.cons_append, List.nil_append]
  after_results
  rfl

/-- The score head's bias operand. -/
theorem score_bias_eq : V m c main_v9 = shapeCast S1x18 (m ((c : Thread nD τ).loc main_arg4)) shapeCasts_S18_S1x18 := by
  show after _ _ _ = _
  simp only [List.flatten_cons, List.flatten_nil, List.append_nil, List.cons_append, List.nil_append]
  after_results
  rfl

/-- The box head's weight operand. -/
theorem box_weights_eq :
    V m c main_v10 = shapeCast S36x512 (m ((c : Thread nD τ).loc main_arg5)) shapeCasts_S36x512x1x1_S36x512 := by
  show after _ _ _ = _
  simp only [List.flatten_cons, List.flatten_nil, List.append_nil, List.cons_append, List.nil_append]
  after_results
  rfl

/-- The box head's bias operand. -/
theorem box_bias_eq : V m c main_v11 = shapeCast S1x36 (m ((c : Thread nD τ).loc main_arg6)) shapeCasts_S36_S1x36 := by
  show after _ _ _ = _
  simp only [List.flatten_cons, List.flatten_nil, List.append_nil, List.cons_append, List.nil_append]
  after_results
  rfl

/-! ## The arrays index by index -/

/-- The value the padding writes is zero. -/
theorem pad_value (j : S_.Idx) : (sitofp .f32 (constantI S_ 32 0#32) : FVec Ideal S_ .f32) j = 0 := by
  show (((0#32).toInt : ℝ) : EReal) = 0
  simp

set_option maxRecDepth 16384 in
/-- An image padded by a value that is zero, channels last. -/
theorem ring_apply (x : FVec Ideal S1x512x32x32 .f32) (z : FVec Ideal S_ .f32) (hz : ∀ j, z j = 0) (r s : Fin 34)
    (i : Fin 512) :
    pad S34x34x512 ![1, 1, 0] ![1, 1, 0] ![0, 0, 0]
      (transpose S32x32x512 [1, 2, 0] (shapeCast S512x32x32 x shapeCasts_S1x512x32x32_S512x32x32)
        transposes_S512x32x32_S32x32x512_1_2_0) z pads_S32x32x512_S34x34x512_110_110_000 h_S_ (ix3 r s i)
      = Cert.Rpn.padded x i r s := by
  pointwise [Cert.Rpn.padded, hz]

/-- The image operand is the padded image. -/
theorem image_apply (r s : Fin 34) (i : Fin 512) :
    (V m c main_v3 : FVec Ideal S34x34x512 .bf16) (ix3 r s i)
      = Cert.Rpn.padded (m ((c : Thread nD τ).loc main_arg0)) i r s :=
  (congrFun (image_eq m c) _).trans (ring_apply _ _ pad_value r s i)

set_option maxRecDepth 16384 in
/-- Slab `t` of the weight operand holds the weights at the kernel offset in row `t / 3` and column `t % 3`. -/
theorem weights_apply (t : Fin 9) (i o : Fin 512) :
    (V m c main_v6 : FVec Ideal S9x512x512 .bf16) (ix3 t i o)
      = (m ((c : Thread nD τ).loc main_arg1) : FVec Ideal S512x512x3x3 .f32)
          (ix4 o i ⟨t / 3, by omega⟩ ⟨t % 3, by omega⟩) := by
  rw [weights_eq]
  generalize m ((c : Thread nD τ).loc main_arg1) = x
  pointwise

set_option maxRecDepth 16384 in
/-- The convolution's bias operand is the bias. -/
theorem bias_apply (o : Fin 512) : (V m c main_v7 : FVec Ideal S1x512 .f32) (ix2 0 o)
      = (m ((c : Thread nD τ).loc main_arg2) : FVec Ideal S512 .f32) (ix1 o) := by
  rw [bias_eq]
  generalize m ((c : Thread nD τ).loc main_arg2) = x
  pointwise

set_option maxRecDepth 16384 in
/-- The score head's weight operand is its weights. -/
theorem score_weights_apply (a : Fin 18) (o : Fin 512) : (V m c main_v8 : FVec Ideal S18x512 .f32) (ix2 a o)
      = (m ((c : Thread nD τ).loc main_arg3) : FVec Ideal S18x512x1x1 .f32) (ix4 a o 0 0) := by
  rw [score_weights_eq]
  generalize m ((c : Thread nD τ).loc main_arg3) = x
  pointwise

set_option maxRecDepth 16384 in
/-- The score head's bias operand is its bias. -/
theorem score_bias_apply (a : Fin 18) : (V m c main_v9 : FVec Ideal S1x18 .f32) (ix2 0 a)
      = (m ((c : Thread nD τ).loc main_arg4) : FVec Ideal S18 .f32) (ix1 a) := by
  rw [score_bias_eq]
  generalize m ((c : Thread nD τ).loc main_arg4) = x
  pointwise

set_option maxRecDepth 16384 in
/-- The box head's weight operand is its weights. -/
theorem box_weights_apply (a : Fin 36) (o : Fin 512) : (V m c main_v10 : FVec Ideal S36x512 .f32) (ix2 a o)
      = (m ((c : Thread nD τ).loc main_arg5) : FVec Ideal S36x512x1x1 .f32) (ix4 a o 0 0) := by
  rw [box_weights_eq]
  generalize m ((c : Thread nD τ).loc main_arg5) = x
  pointwise

set_option maxRecDepth 16384 in
/-- The box head's bias operand is its bias. -/
theorem box_bias_apply (a : Fin 36) : (V m c main_v11 : FVec Ideal S1x36 .f32) (ix2 0 a)
      = (m ((c : Thread nD τ).loc main_arg6) : FVec Ideal S36 .f32) (ix1 a) := by
  rw [box_bias_eq]
  generalize m ((c : Thread nD τ).loc main_arg6) = x
  pointwise

end Cert.KernelIdeal.Math

end
-- ==== Proof.KernelRun.lean ====
/-
  The kernel's run, read at its two results: each is the reshape of what the one block stores, which covers its array.
-/
module

public import proofs.«01_k».proof.Proof.KernelBody
public import proofs.«01_k».proof.Proof.KernelEntry
public import Idealize.ShloMosaic.Lib.Pipeline.Value

@[expose] public section

noncomputable section

namespace Cert.KernelIdeal.Math

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-! ## The call's two result arrays -/

/-- The offsets of a whole array are zero. -/
theorem zero_offsets : (![0, 0] : Fin 2 → Nat) = fun _ => 0 := funext fun a => by fin_cases a <;> rfl

/-- What the call leaves in its first result array. -/
def callScores : Buf (Elt Ideal) ((c : Thread nD τ).loc main_v12_0) :=
  k0_pay1 (F := Ideal) (k0_pay9 (V m c main_v3) (V m c main_v6) (V m c main_v7) (V m c main_v8) (V m c main_v9)
    (V m c main_v10) (V m c main_v11)) (V m c main_v8) (V m c main_v9)

/-- What the call leaves in its second result array. -/
def callBoxes : Buf (Elt Ideal) ((c : Thread nD τ).loc main_v12_1) :=
  k0_pay2 (F := Ideal) (k0_pay9 (V m c main_v3) (V m c main_v6) (V m c main_v7) (V m c main_v8) (V m c main_v9)
    (V m c main_v10) (V m c main_v11)) (V m c main_v10) (V m c main_v11)

/-- The image window's block is the whole padded image. -/
theorem block_0 (t : Fin cfg0.N) : iblk m c 0 t = V m c main_v3 :=
  Memref.read_access_unit_zero (Elt Ideal) main_v3 (funext fun _ => Nat.zero_mul _) _ _

/-- The convolution weights' block is all nine slabs. -/
theorem block_1 (t : Fin cfg0.N) : iblk m c 1 t = V m c main_v6 :=
  Memref.read_access_unit_zero (Elt Ideal) main_v6 (funext fun _ => Nat.zero_mul _) _ _

/-- The block of the convolution's bias is the whole bias. -/
theorem block_2 (t : Fin cfg0.N) : iblk m c 2 t = V m c main_v7 :=
  Memref.read_access_unit_zero (Elt Ideal) main_v7 (funext fun _ => Nat.zero_mul _) _ _

/-- The block of the score head's weights is all of them. -/
theorem block_3 (t : Fin cfg0.N) : iblk m c 3 t = V m c main_v8 :=
  Memref.read_access_unit_zero (Elt Ideal) main_v8 (funext fun _ => Nat.zero_mul _) _ _

/-- The block of the score head's bias is the whole bias. -/
theorem block_4 (t : Fin cfg0.N) : iblk m c 4 t = V m c main_v9 :=
  Memref.read_access_unit_zero (Elt Ideal) main_v9 (funext fun _ => Nat.zero_mul _) _ _

/-- The block of the box head's weights is all of them. -/
theorem block_5 (t : Fin cfg0.N) : iblk m c 5 t = V m c main_v10 :=
  Memref.read_access_unit_zero (Elt Ideal) main_v10 (funext fun _ => Nat.zero_mul _) _ _

/-- The block of the box head's bias is the whole bias. -/
theorem block_6 (t : Fin cfg0.N) : iblk m c 6 t = V m c main_v11 :=
  Memref.read_access_unit_zero (Elt Ideal) main_v11 (funext fun _ => Nat.zero_mul _) _ _

/-- The first result's block, read out of contents `G`, is all of `G`. -/
theorem block_7 (t : Fin cfg0.N) (G : Buf (Elt Ideal) ((c : Thread nD τ).loc main_v12_0)) :
    ((cfg0.win 7).blk t).view.read (Elt Ideal) G = G :=
  Memref.read_access_unit_zero (Elt Ideal) main_v12_0 (funext fun _ => Nat.zero_mul _) _ _

/-- The second result's block, read out of contents `G`, is all of `G`. -/
theorem block_8 (t : Fin cfg0.N) (G : Buf (Elt Ideal) ((c : Thread nD τ).loc main_v12_1)) :
    ((cfg0.win 8).blk t).view.read (Elt Ideal) G = G :=
  Memref.read_access_unit_zero (Elt Ideal) main_v12_1 (funext fun _ => Nat.zero_mul _) _ _

/-- The first result's block is what the body stores. -/
theorem flushed_scores (t : Fin cfg0.N) :
    (dats m 0 c).flushed 7 t = ((cfg0.win 7).blk t).view.read (Elt Ideal) (callScores m c) := by
  show (cfg0.win 7).cut (grid0.coords t) ((dats m 0 c).after 7 t) = _
  rw [after0_7, block_7, block_0, block_1, block_2, block_3, block_4, block_5, block_6]
  unfold out0_7
  rw [View.canon_unit_zero zero_offsets, View.ld_unit_zero zero_offsets, View.ld_unit_zero zero_offsets]
  rfl

/-- The second result's block is what the body stores. -/
theorem flushed_boxes (t : Fin cfg0.N) :
    (dats m 0 c).flushed 8 t = ((cfg0.win 8).blk t).view.read (Elt Ideal) (callBoxes m c) := by
  show (cfg0.win 8).cut (grid0.coords t) ((dats m 0 c).after 8 t) = _
  rw [after0_8, block_8, block_0, block_1, block_2, block_3, block_4, block_5, block_6]
  unfold out0_8
  rw [View.canon_unit_zero zero_offsets, View.ld_unit_zero zero_offsets, View.ld_unit_zero zero_offsets]
  rfl

/-- The call's one point. -/
def onePoint : Fin cfg0.N := ⟨0, by decide⟩

/-- The one block covers the first result's array. -/
theorem cover_scores (i : S1024x18.Idx) : ∃ t : Fin cfg0.N, (cfg0.win 7).flush t = true ∧ i ∈ ((cfg0.win 7).blk t).view.set := by
  refine ⟨onePoint, flush0_7 _, ?_⟩
  show i ∈ ((View.whole main_v12_0).slice (win0_7.rect onePoint)).set
  rw [View.set_slice_whole, Rect.mem_set_unit]
  intro a
  have h := (i a).isLt
  exact ⟨(Nat.zero_mul _).le.trans (Nat.zero_le _), lt_of_lt_of_le h (Nat.le_add_left _ _)⟩

/-- The one block covers the second result's array. -/
theorem cover_boxes (i : S1024x36.Idx) : ∃ t : Fin cfg0.N, (cfg0.win 8).flush t = true ∧ i ∈ ((cfg0.win 8).blk t).view.set := by
  refine ⟨onePoint, flush0_8 _, ?_⟩
  show i ∈ ((View.whole main_v12_1).slice (win0_8.rect onePoint)).set
  rw [View.set_slice_whole, Rect.mem_set_unit]
  intro a
  have h := (i a).isLt
  exact ⟨(Nat.zero_mul _).le.trans (Nat.zero_le _), lt_of_lt_of_le h (Nat.le_add_left _ _)⟩

/-- The first result's array after the call. -/
theorem final_scores : (dats m 0 c).arrAt 7 cfg0.N = callScores m c :=
  (dats m 0 c).arrAt_eq_of_cover 7 (callScores m c) (fun t _ => flushed_scores m c t) cover_scores

/-- The second result's array after the call. -/
theorem final_boxes : (dats m 0 c).arrAt 8 cfg0.N = callBoxes m c :=
  (dats m 0 c).arrAt_eq_of_cover 8 (callBoxes m c) (fun t _ => flushed_boxes m c t) cover_boxes

/-! ## The two reshapes after the call -/

/-- The windows' arrays are distinct. -/
theorem arrays_distinct : Function.Injective (Pipeline.arrRef spec0) := by decide

/-- The first result. -/
theorem tail_scores : Pipeline.afterTail₀ cfgs (dats m) 0 (V0 m) [hostOps1] c main_v13
    = shapeCast S9216x2 (callScores m c) shapeCasts_S1024x18_S9216x2 := by
  unfold Pipeline.afterTail₀
  simp only [List.flatten_cons, List.flatten_nil, List.append_nil]
  after_results
  have h := Pipeline.withArrays_arr spec0 arrays_distinct c (V0 m c) (fun w => (dats m 0 c).arrAt w cfg0.N) 7
  rw [final_scores] at h
  exact congrArg (fun x => shapeCast S9216x2 x shapeCasts_S1024x18_S9216x2) h

/-- The second result. -/
theorem tail_boxes : Pipeline.afterTail₀ cfgs (dats m) 0 (V0 m) [hostOps1] c main_v14
    = shapeCast S9216x4 (callBoxes m c) shapeCasts_S1024x36_S9216x4 := by
  unfold Pipeline.afterTail₀
  simp only [List.flatten_cons, List.flatten_nil, List.append_nil]
  after_results
  have h := Pipeline.withArrays_arr spec0 arrays_distinct c (V0 m c) (fun w => (dats m 0 c).arrAt w cfg0.N) 8
  rw [final_boxes] at h
  exact congrArg (fun x => shapeCast S9216x4 x shapeCasts_S1024x36_S9216x4) h

/-- The kernel's run: both results at their values, the arguments unchanged. -/
theorem run : θ_run defs (onTc (τ := τ) (main (F := Ideal))) ⟨m, fun _ => 0, ρ⟩ fun r => ∀ c : Dev nD,
      r.2.mem ((c : Thread nD τ).loc main_v13) = shapeCast S9216x2 (callScores m c) shapeCasts_S1024x18_S9216x2
      ∧ r.2.mem ((c : Thread nD τ).loc main_v14) = shapeCast S9216x4 (callBoxes m c) shapeCasts_S1024x36_S9216x4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
      ⟨((h.1 c).2 main_v13 (Pipeline.mem_restRefs_of main_v13 (by decide) (by decide))).trans (tail_scores m c),
        ((h.1 c).2 main_v14 (Pipeline.mem_restRefs_of main_v14 (by decide) (by decide))).trans (tail_boxes m c), h.2 c⟩)
    (θ_run_and (run_main m ρ) (unchanged m ρ))

/-! ## The results index by index -/

/-- The features the call computes, at pixel row `r`. -/
theorem call_features (r : Fin 1024) (o : Fin 512) :
    k0_pay9 (F := Ideal) (V m c main_v3) (V m c main_v6) (V m c main_v7) (V m c main_v8) (V m c main_v9)
        (V m c main_v10) (V m c main_v11) (ix2 r o)
      = Cert.Rpn.hidden (m ((c : Thread nD τ).loc main_arg0)) (m ((c : Thread nD τ).loc main_arg1))
          (m ((c : Thread nD τ).loc main_arg2)) ⟨r / 32, by omega⟩ ⟨r % 32, by omega⟩ o :=
  features_apply _ _ _ _ _ _ _ _ _ _ (image_apply m c) (weights_apply m c) (bias_apply m c) r o

/-- The call's first result, at pixel row `r` and channel `a`. -/
theorem callScores_apply (r : Fin 1024) (a : Fin 18) :
    (callScores m c : FVec Ideal S1024x18 .f32) (ix2 r a)
      = Cert.Rpn.head (Cert.Rpn.hidden (m ((c : Thread nD τ).loc main_arg0)) (m ((c : Thread nD τ).loc main_arg1))
          (m ((c : Thread nD τ).loc main_arg2)) ⟨r / 32, by omega⟩ ⟨r % 32, by omega⟩)
          (m ((c : Thread nD τ).loc main_arg3)) (m ((c : Thread nD τ).loc main_arg4)) a := by
  refine (scores_apply _ _ _ _ _ (score_weights_apply m c) (score_bias_apply m c) r a).trans ?_
  exact congrArg (fun f => Cert.Rpn.head f _ _ a) (funext fun o => call_features m c r o)

/-- The call's second result, at pixel row `r` and channel `a`. -/
theorem callBoxes_apply (r : Fin 1024) (a : Fin 36) :
    (callBoxes m c : FVec Ideal S1024x36 .f32) (ix2 r a)
      = Cert.Rpn.head (Cert.Rpn.hidden (m ((c : Thread nD τ).loc main_arg0)) (m ((c : Thread nD τ).loc main_arg1))
          (m ((c : Thread nD τ).loc main_arg2)) ⟨r / 32, by omega⟩ ⟨r % 32, by omega⟩)
          (m ((c : Thread nD τ).loc main_arg5)) (m ((c : Thread nD τ).loc main_arg6)) a := by
  refine (boxes_apply _ _ _ _ _ (box_weights_apply m c) (box_bias_apply m c) r a).trans ?_
  exact congrArg (fun f => Cert.Rpn.head f _ _ a) (funext fun o => call_features m c r o)

set_option maxRecDepth 16384 in
/-- The pairs of scores: 9 rows of the result are one row of the array that holds 18 to a pixel. -/
theorem pairs_apply (y : FVec Ideal S1024x18 .f32) (r : Fin 9216) (l : Fin 2) :
    shapeCast S9216x2 y shapeCasts_S1024x18_S9216x2 (ix2 r l) = y (ix2 ⟨r / 9, by omega⟩ ⟨r % 9 * 2 + l, by omega⟩) := by
  pointwise

set_option maxRecDepth 16384 in
/-- The boxes' fours: 9 rows of the result are one row of the array that holds 36 to a pixel. -/
theorem fours_apply (y : FVec Ideal S1024x36 .f32) (r : Fin 9216) (l : Fin 4) :
    shapeCast S9216x4 y shapeCasts_S1024x36_S9216x4 (ix2 r l) = y (ix2 ⟨r / 9, by omega⟩ ⟨r % 9 * 4 + l, by omega⟩) := by
  pointwise

/-- The kernel's first result is the mathematics' scores. -/
theorem result_scores (r : Fin 9216) (l : Fin 2) :
    shapeCast S9216x2 (callScores m c : FVec Ideal S1024x18 .f32) shapeCasts_S1024x18_S9216x2 (ix2 r l)
      = Cert.Rpn.scores (m ((c : Thread nD τ).loc main_arg0)) (m ((c : Thread nD τ).loc main_arg1))
          (m ((c : Thread nD τ).loc main_arg2)) (m ((c : Thread nD τ).loc main_arg3)) (m ((c : Thread nD τ).loc main_arg4)) r l := by
  rw [pairs_apply, callScores_apply]
  unfold Cert.Rpn.scores
  congr 3
  exact Nat.div_div_eq_div_mul r 9 32

/-- The kernel's second result is the mathematics' boxes. -/
theorem result_boxes (r : Fin 9216) (l : Fin 4) :
    shapeCast S9216x4 (callBoxes m c : FVec Ideal S1024x36 .f32) shapeCasts_S1024x36_S9216x4 (ix2 r l)
      = Cert.Rpn.boxes (m ((c : Thread nD τ).loc main_arg0)) (m ((c : Thread nD τ).loc main_arg1))
          (m ((c : Thread nD τ).loc main_arg2)) (m ((c : Thread nD τ).loc main_arg5)) (m ((c : Thread nD τ).loc main_arg6)) r l := by
  rw [fours_apply, callBoxes_apply]
  unfold Cert.Rpn.boxes
  congr 3
  exact Nat.div_div_eq_div_mul r 9 32

end Cert.KernelIdeal.Math

end
-- ==== Proof.lean ====
/- The region proposal head, kernel against reference: the frames of the three programs, and the equality of their
   results over the extended reals. `Proof/Spec.lean` states the mathematics, `Proof/RefValue.lean` reads the reference
   as it, and `Proof/KernelBody.lean`, `Proof/KernelEntry.lean` and `Proof/KernelRun.lean` read the kernel as it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefValue
public import proofs.«01_k».proof.Proof.KernelRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's idealization and the reference compute the same two results: both hold the mathematics' scores and boxes
    of the arguments. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, Cert.KernelIdeal.Math.run m g, (θ_run Cert.ReferenceIdeal.defs _ _).mono
    (fun _ h c => ⟨(h c).1.trans ?_, (h c).2.1.trans ?_, (h c).2.2⟩) (Cert.ReferenceIdeal.Value.run (F := Ideal) m' g')⟩
  · obtain ⟨h0, h1, h2, h3, h4, -, -⟩ := hagree c
    rw [Cert.ReferenceIdeal.Read.val_main_v49_eq, h0, h1, h2, h3, h4]
    funext j
    rw [eq_ix2 j]
    exact (Cert.ReferenceIdeal.Math.scores_apply _ _ _ _ _ _ _).trans (Cert.KernelIdeal.Math.result_scores m c _ _).symm
  · obtain ⟨h0, h1, h2, -, -, h5, h6⟩ := hagree c
    rw [Cert.ReferenceIdeal.Read.val_main_v51_eq, h0, h1, h2, h5, h6]
    funext j
    rw [eq_ix2 j]
    exact (Cert.ReferenceIdeal.Math.boxes_apply _ _ _ _ _ _ _).trans (Cert.KernelIdeal.Math.result_boxes m c _ _).symm

/-- The reference leaves its arguments alone, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
